-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x4096 : Shape := ⟨3, ![6, 3072, 4096]⟩
abbrev S4096x1536 : Shape := ⟨2, ![4096, 1536]⟩
abbrev S1536 : Shape := ⟨1, ![1536]⟩
abbrev S1x1536 : Shape := ⟨2, ![1, 1536]⟩
abbrev S2304x8x1536 : Shape := ⟨3, ![2304, 8, 1536]⟩
abbrev S6x1x3072 : Shape := ⟨3, ![6, 1, 3072]⟩
abbrev S1x512x4096 : Shape := ⟨3, ![1, 512, 4096]⟩
abbrev S64x8x1536 : Shape := ⟨3, ![64, 8, 1536]⟩
abbrev S1x1x512 : Shape := ⟨3, ![1, 1, 512]⟩
abbrev S512x4096 : Shape := ⟨2, ![512, 4096]⟩
abbrev S512 : Shape := ⟨1, ![512]⟩
abbrev S512x1 : Shape := ⟨2, ![512, 1]⟩
abbrev S512x256 : Shape := ⟨2, ![512, 256]⟩
abbrev S1x512 : Shape := ⟨2, ![1, 512]⟩
abbrev S512x1536 : Shape := ⟨2, ![512, 1536]⟩
abbrev S6x3072x1536 : Shape := ⟨3, ![6, 3072, 1536]⟩
abbrev S6x3072x1 : Shape := ⟨3, ![6, 3072, 1]⟩

abbrev nBuf : Space → Nat
  | .hbm => 11
  | .vmem => 11
  | .smem => 0
  | _ => 0

abbrev bufTy : (tb : Table) → Fin (tcTables nBuf tb) → BufTy
  | .hbm, ⟨0, _⟩ => ⟨S6x3072x4096, .bf16⟩
  | .hbm, ⟨1, _⟩ => ⟨S4096x1536, .fp8e4m3⟩
  | .hbm, ⟨2, _⟩ => ⟨S1536, .f32⟩
  | .hbm, ⟨3, _⟩ => ⟨S1536, .f32⟩
  | .hbm, ⟨4, _⟩ => ⟨S1x1536, .f32⟩
  | .hbm, ⟨5, _⟩ => ⟨S1x1536, .f32⟩
  | .hbm, ⟨6, _⟩ => ⟨S2304x8x1536, .bf16⟩
  | .hbm, ⟨7, _⟩ => ⟨S6x3072x4096, .fp8e4m3⟩
  | .hbm, ⟨8, _⟩ => ⟨S6x1x3072, .f32⟩
  | .hbm, ⟨9, _⟩ => ⟨S6x3072x1536, .bf16⟩
  | .hbm, ⟨10, _⟩ => ⟨S6x3072x1, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x1536, .fp8e4m3⟩
  | .local _ .vmem, ⟨3, _⟩ => ⟨S1x1536, .f32⟩
  | .local _ .vmem, ⟨4, _⟩ => ⟨S1x1536, .f32⟩
  | .local _ .vmem, ⟨5, _⟩ => ⟨S64x8x1536, .bf16⟩
  | .local _ .vmem, ⟨6, _⟩ => ⟨S64x8x1536, .bf16⟩
  | .local _ .vmem, ⟨7, _⟩ => ⟨S1x512x4096, .fp8e4m3⟩
  | .local _ .vmem, ⟨8, _⟩ => ⟨S1x512x4096, .fp8e4m3⟩
  | .local _ .vmem, ⟨9, _⟩ => ⟨S1x1x512, .f32⟩
  | .local _ .vmem, ⟨10, _⟩ => ⟨S1x1x512, .f32⟩
  | _, _ => ⟨S6x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![6, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x8x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S6x3072x4096 : Shape := ⟨3, ![6, 3072, 4096]⟩
abbrev S4096x1536 : Shape := ⟨2, ![4096, 1536]⟩
abbrev S1536 : Shape := ⟨1, ![1536]⟩
abbrev S6x3072x1536 : Shape := ⟨3, ![6, 3072, 1536]⟩
abbrev S6x3072x1 : Shape := ⟨3, ![6, 3072, 1]⟩
abbrev S6x3072 : Shape := ⟨2, ![6, 3072]⟩
abbrev S1x1x1536 : Shape := ⟨3, ![1, 1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S6x3072x4096, .bf16⟩
  | .hbm, ⟨1, _⟩ => ⟨S4096x1536, .fp8e4m3⟩
  | .hbm, ⟨2, _⟩ => ⟨S1536, .f32⟩
  | .hbm, ⟨3, _⟩ => ⟨S1536, .f32⟩
  | .hbm, ⟨4, _⟩ => ⟨S6x3072x1536, .bf16⟩
  | .hbm, ⟨5, _⟩ => ⟨S6x3072x4096, .fp8e4m3⟩
  | .hbm, ⟨6, _⟩ => ⟨S6x3072x1, .f32⟩
  | .local _ .vmem, ⟨0, _⟩ => ⟨S6x3072x4096, .bf16⟩
  | .local _ .vmem, ⟨1, _⟩ => ⟨S4096x1536, .fp8e4m3⟩
  | .local _ .vmem, ⟨2, _⟩ => ⟨S1536, .f32⟩
  | .local _ .vmem, ⟨3, _⟩ => ⟨S1536, .f32⟩
  | .local _ .vmem, ⟨4, _⟩ => ⟨S6x3072x1536, .bf16⟩
  | .local _ .vmem, ⟨5, _⟩ => ⟨S6x3072x4096, .fp8e4m3⟩
  | .local _ .vmem, ⟨6, _⟩ => ⟨S6x3072x1, .f32⟩
  | _, _ => ⟨S6x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S6x3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x3072x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3072x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x3072x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Powers.lean ====
/- The float constants both programs spell, and the 256 thresholds the kernel counts against, as extended reals. -/
module

public import Idealize.ShloMosaic.PureOps.Ideal

@[expose] public section

noncomputable section

namespace Cert.Powers

open Idealize.ShloMosaic

/-- The value of the float whose exponent field is `j` and whose other bits are zero: zero, a power of two, or infinity. -/
def pow (j : Nat) : EReal := if j = 0 then 0 else if j = 255 then ⊤ else (((2 : ℝ) ^ ((j : ℤ) - 127) : ℝ) : EReal)

/-- The word with `j` in the exponent field, taken apart: sign, exponent, fraction. -/
theorem fields : ∀ j : Fin 256, ((IntOp.shli .vector (BitVec.ofNat 32 j.val) 23#32).extractLsb' 31 1 == 1#1) = false
    ∧ ((IntOp.shli .vector (BitVec.ofNat 32 j.val) 23#32).extractLsb' 23 8).toNat = j.val
    ∧ ((IntOp.shli .vector (BitVec.ofNat 32 j.val) 23#32).extractLsb' 0 23).toNat = 0 := by
  decide +kernel

/-- The float with `j` in the exponent field denotes `pow j`. -/
theorem ofBits_field (j : Fin 256) : Ideal.ofBits .f32 (IntOp.shli .vector (BitVec.ofNat 32 j.val) 23#32) = pow j.val := by
  obtain ⟨h1, h2, h3⟩ := fields j
  show Ideal.ieee 8 23 (IntOp.shli .vector (BitVec.ofNat 32 j.val) 23#32) = _
  have hlt : j.val < 256 := j.isLt
  generalize IntOp.shli .vector (BitVec.ofNat 32 j.val) 23#32 = w at h1 h2 h3 ⊢
  generalize j.val = n at h2 hlt ⊢
  unfold Ideal.ieee pow
  simp only [Nat.reduceAdd, h1, h2, h3, Bool.false_eq_true, if_false, if_true]
  by_cases a : n = 255
  · subst a; norm_num
  by_cases b : n = 0
  · subst b; norm_num
  rw [if_neg (by norm_num; exact a), if_neg b, if_neg b, if_neg a]
  congr 1
  rw [show (1 : ℝ) * ((2 ^ 23 + 0 : Nat) : ℝ) = (2 : ℝ) ^ (23 : ℤ) by norm_num, ← zpow_add₀ (by norm_num : (2 : ℝ) ≠ 0)]
  congr 1
  norm_num

/-- `-126.0` -/
theorem ofBits_neg126 : Ideal.ofBits .f32 0xC2FC0000#32 = ((-126 : ℝ) : EReal) := by
  simp [Ideal.ofBits, Ideal.ieee, -EReal.coe_mul]; norm_num

/-- `127.0` -/
theorem ofBits_127 : Ideal.ofBits .f32 0x42FE0000#32 = ((127 : ℝ) : EReal) := by
  simp [Ideal.ofBits, Ideal.ieee, -EReal.coe_mul]; norm_num

/-- `1.0` -/
theorem ofBits_one : Ideal.ofBits .f32 0x3F800000#32 = ((1 : ℝ) : EReal) := by
  simp [Ideal.ofBits, Ideal.ieee, -EReal.coe_mul]; norm_num

/-- `+∞` -/
theorem ofBits_top : Ideal.ofBits .f32 0x7F800000#32 = ⊤ := by
  simp [Ideal.ofBits, Ideal.ieee, -EReal.coe_mul]

/-- The least normal float, `2 ^ -126`. -/
theorem ofBits_least : Ideal.ofBits .f32 0x00800000#32 = (((2 : ℝ) ^ (-126 : ℤ) : ℝ) : EReal) :=
  (ofBits_field 1).trans (by simp [pow])

end Cert.Powers

end
-- ==== Proof.Exponent.lean ====
/- The exponent of a row, in the kernel's way (count the powers of two that are reached) and in the reference's way
   (floor of the base-2 logarithm, plus one), and the two powers of two each program makes from it. The two ways give
   the same scale and the same inverse scale at every extended real. -/
module

public import proofs.«01_k».proof.Proof.Powers
public import Idealize.ShloMosaic.PureOps.Ideal
public import Idealize.ShloMosaic.Lib.IndicatorCount
public import Mathlib.Analysis.SpecialFunctions.Log.Basic

@[expose] public section

noncomputable section

namespace Cert.Exponent

open Idealize.ShloMosaic Cert.Powers

/-! ## The kernel's way -/

/-- How many of the 256 powers `t` reaches, as a word. -/
def count (t : EReal) : BitVec 32 :=
  (Finset.univ : Finset (Fin 256)).fold IntOp.addi 0#32
    fun k => (Ideal.cmp .oge t (Ideal.ofBits .f32 (IntOp.shli .vector (BitVec.ofNat 32 k.val) 23#32))).setWidth 32

/-- The kernel's exponent of a row with greatest magnitude `a` and scaled magnitude `t`. -/
def word (a t : EReal) : BitVec 32 :=
  Scalar.select (Ideal.cmp .oeq a 0) 0#32
    (Scalar.select (IntOp.ori (IntOp.cmpi .sle (count t) 1#32) (IntOp.cmpi .eq (count t) 256#32)) 0#32
      (IntOp.subi (count t) 127#32))

/-- The kernel's power of two with exponent `e`. -/
def wordPow (e : BitVec 32) : EReal :=
  Ideal.ofBits .f32 (IntOp.shli .vector
    (IntOp.addi (IntOp.minsi 128#32 (IntOp.maxsi 4294967169#32 e)) 127#32) 23#32)

/-! ## The reference's way -/

/-- The reference's exponent of a row with greatest magnitude `a` and scaled magnitude `t`. -/
def real (a t : EReal) : EReal :=
  Scalar.select (Ideal.cmp .oeq a 0) 0
    (Scalar.select (IntOp.andi (Ideal.cmp .oge t (Ideal.ofBits .f32 0x00800000#32)) (Ideal.cmp .olt t (Ideal.ofBits .f32 0x7F800000#32)))
      (Ideal.liftRound Int.floor (Ideal.div (Ideal.log t) ((Real.log 2 : ℝ) : EReal)) + Ideal.ofBits .f32 0x3F800000#32) 0)

/-- The reference's power of two with exponent `e`. -/
def realPow (e : EReal) : EReal :=
  Scalar.select (Ideal.cmp .olt e (Ideal.ofBits .f32 0xC2FC0000#32)) 0
    (Scalar.select (Ideal.cmp .ogt e (Ideal.ofBits .f32 0x42FE0000#32)) (Ideal.ofBits .f32 0x7F800000#32) (Ideal.exp2 e))

/-! ## The count -/

/-- A comparison for "at least" gives one exactly when it holds. -/
theorem cmp_oge_eq_one (x y : EReal) : Ideal.cmp .oge x y = 1#1 ↔ y ≤ x := by
  by_cases h : y ≤ x <;> simp [Ideal.cmp, h]

/-- The count, from the powers reached being the first `n`. -/
theorem count_eq (t : EReal) (n : Nat) (hn : n ≤ 256) (h : ∀ k : Fin 256, pow k.val ≤ t ↔ k.val < n) :
    count t = BitVec.ofNat 32 n := by
  unfold count
  rw [IndicatorCount.fold_addi_setWidth_eq_card]
  congr 1
  have e : (Finset.univ.filter fun k : Fin 256 =>
      Ideal.cmp .oge t (Ideal.ofBits .f32 (IntOp.shli .vector (BitVec.ofNat 32 k.val) 23#32)) = 1#1)
      = Finset.univ.filter fun k : Fin 256 => k.val < n := by
    ext k
    simp only [Finset.mem_filter, Finset.mem_univ, true_and]
    rw [cmp_oge_eq_one, ofBits_field, h]
  rw [e, Fin.card_filter_val_lt, min_eq_right hn]

/-- An infinite `t` reaches all 256. -/
theorem count_top : count ⊤ = 256#32 :=
  count_eq ⊤ 256 le_rfl fun k => ⟨fun _ => k.isLt, fun _ => le_top⟩

/-- Every power but the first is at least the least normal float. -/
theorem least_le_pow (k : Nat) (hk : k ≠ 0) : (((2 : ℝ) ^ (-126 : ℤ) : ℝ) : EReal) ≤ pow k := by
  unfold pow
  rw [if_neg hk]
  split
  · exact le_top
  · exact EReal.coe_le_coe_iff.2 (zpow_le_zpow_right₀ (by norm_num) (by omega))

/-- A `t` below the least normal float reaches at most the first. -/
theorem count_small (t : EReal) (h : t < (((2 : ℝ) ^ (-126 : ℤ) : ℝ) : EReal)) : count t = 0#32 ∨ count t = 1#32 := by
  by_cases h0 : 0 ≤ t
  · refine .inr (count_eq t 1 (by norm_num) fun k => ⟨fun hk => ?_, fun hk => ?_⟩)
    · by_contra hne
      exact absurd (lt_of_le_of_lt hk h) (not_lt.2 (least_le_pow k.val (by omega)))
    · rw [show k.val = 0 by omega]; simpa [pow] using h0
  · refine .inl (count_eq t 0 (by norm_num) fun k => ⟨fun hk => absurd hk (not_le.2 ?_), fun hk => absurd hk (by omega)⟩)
    refine lt_of_lt_of_le (not_le.1 h0) ?_
    by_cases e : k.val = 0
    · simp [pow, e]
    · exact le_trans (EReal.coe_nonneg.2 (by positivity)) (least_le_pow k.val e)

/-- `2 ^ z ≤ r` says that `z` is at most the floor of `r`'s base-2 logarithm. -/
theorem zpow_le_iff (r : ℝ) (hr : 0 < r) (z : ℤ) : (2 : ℝ) ^ z ≤ r ↔ z ≤ ⌊Real.log r * (1 / Real.log 2)⌋ := by
  have h2 : 0 < Real.log 2 := Real.log_pos (by norm_num)
  rw [Int.le_floor, mul_one_div, le_div_iff₀ h2, ← Real.log_zpow, Real.log_le_log_iff (by positivity) hr]

/-- A finite `r` from the least normal float on, with floored logarithm `n`, reaches the first `n + 128`, at most 255. -/
theorem count_normal (r : ℝ) (h : (2 : ℝ) ^ (-126 : ℤ) ≤ r) (n : ℤ) (hn : n = ⌊Real.log r * (1 / Real.log 2)⌋) :
    count (r : EReal) = BitVec.ofNat 32 (min (n + 128).toNat 255) := by
  have hr : 0 < r := lt_of_lt_of_le (by positivity) h
  have hle : -126 ≤ n := by rw [hn]; exact (zpow_le_iff r hr _).1 h
  refine count_eq _ _ (by omega) fun k => ?_
  have hk := k.isLt
  unfold pow
  split
  · rename_i e
    constructor
    · intro _; omega
    · intro _; exact EReal.coe_nonneg.2 hr.le
  · split
    · rename_i e
      constructor
      · intro hc; exact absurd (top_le_iff.1 hc) (EReal.coe_ne_top r)
      · intro hc; omega
    · rw [EReal.coe_le_coe_iff, zpow_le_iff r hr, ← hn]
      omega

/-! ## The two exponents -/

/-- The kernel's scale and inverse scale from the exponent `j - 127`. -/
theorem wordPow_field (j : Fin 256) : wordPow (IntOp.subi (BitVec.ofNat 32 j.val) 127#32) = pow j.val
    ∧ wordPow (IntOp.subi 0#32 (IntOp.subi (BitVec.ofNat 32 j.val) 127#32)) = pow (254 - j.val) := by
  have e : ∀ j : Fin 256,
      IntOp.addi (IntOp.minsi 128#32 (IntOp.maxsi 4294967169#32 (IntOp.subi (BitVec.ofNat 32 j.val) 127#32))) 127#32 = BitVec.ofNat 32 j.val
      ∧ IntOp.addi (IntOp.minsi 128#32 (IntOp.maxsi 4294967169#32 (IntOp.subi 0#32 (IntOp.subi (BitVec.ofNat 32 j.val) 127#32)))) 127#32
        = BitVec.ofNat 32 (254 - j.val) := by
    decide +kernel
  unfold wordPow
  rw [(e j).1, (e j).2]
  exact ⟨ofBits_field j, ofBits_field ⟨254 - j.val, by omega⟩⟩

/-- The reference's power of two at a whole exponent. -/
theorem realPow_int (z : ℤ) : realPow ((z : ℝ) : EReal)
    = if z < -126 then 0 else if 127 < z then ⊤ else (((2 : ℝ) ^ z : ℝ) : EReal) := by
  have h1 : ((z : ℝ) : EReal) < ((-126 : ℝ) : EReal) ↔ z < -126 := by
    rw [EReal.coe_lt_coe_iff]; exact_mod_cast Iff.rfl
  have h2 : ((127 : ℝ) : EReal) < ((z : ℝ) : EReal) ↔ 127 < z := by
    rw [EReal.coe_lt_coe_iff]; exact_mod_cast Iff.rfl
  unfold realPow
  rw [ofBits_neg126, ofBits_127, ofBits_top]
  simp only [Ideal.cmp, h1, h2]
  by_cases a : z < -126
  · simp [a, Scalar.select]
  · by_cases b : 127 < z
    · simp [a, b, Scalar.select]
    · have e : Ideal.exp2 ((z : ℝ) : EReal) = (((2 : ℝ) ^ z : ℝ) : EReal) := by
        show (((2 : ℝ) ^ (z : ℝ) : ℝ) : EReal) = _
        rw [Real.rpow_intCast]
      rw [e]
      simp [a, b, Scalar.select]

/-- Both exponents, in one of two forms: zero, or a normal exponent `z` from -125 on, which the kernel caps at 128. -/
theorem cases (a t : EReal) : (word a t = 0#32 ∧ real a t = 0)
    ∨ ∃ z : ℤ, -125 ≤ z ∧ word a t = IntOp.subi (BitVec.ofNat 32 (min (z + 127).toNat 255)) 127#32 ∧ real a t = ((z : ℝ) : EReal) := by
  unfold word real
  by_cases ha : a = 0
  · left; simp [Ideal.cmp, ha, Scalar.select]
  have ea : Ideal.cmp .oeq a 0 = 0#1 := by simp [Ideal.cmp, ha]
  rw [ea, ofBits_least, ofBits_top, ofBits_one]
  by_cases hs : t < (((2 : ℝ) ^ (-126 : ℤ) : ℝ) : EReal)
  · left
    have e1 : Ideal.cmp .oge t (((2 : ℝ) ^ (-126 : ℤ) : ℝ) : EReal) = 0#1 := by
      show BitVec.ofBool (decide _) = _
      rw [decide_eq_false (not_le.2 hs)]; rfl
    rw [e1]
    rcases count_small t hs with h | h <;> rw [h] <;> constructor
    · decide
    · simp [Scalar.select, IntOp.andi]
    · decide
    · simp [Scalar.select, IntOp.andi]
  have hs := not_lt.1 hs
  induction t using EReal.rec with
  | bot => exact absurd hs (by simp)
  | top =>
    left
    rw [count_top]
    constructor
    · decide
    · simp [Scalar.select, IntOp.andi, Ideal.cmp]
  | coe r =>
    right
    have hr1 : (2 : ℝ) ^ (-126 : ℤ) ≤ r := EReal.coe_le_coe_iff.1 hs
    have hr : 0 < r := lt_of_lt_of_le (by positivity) hr1
    obtain ⟨n, hn⟩ : ∃ n : ℤ, n = ⌊Real.log r * (1 / Real.log 2)⌋ := ⟨_, rfl⟩
    have hle : -126 ≤ n := by rw [hn]; exact (zpow_le_iff r hr _).1 hr1
    refine ⟨n + 1, by omega, ?_, ?_⟩
    · rw [count_normal r hr1 n hn, show n + 1 + 127 = n + 128 by ring]
      obtain ⟨c, hc⟩ : ∃ c : Fin 256, c.val = min (n + 128).toNat 255 := ⟨⟨_, by omega⟩, rfl⟩
      rw [← hc]
      have h2 : 2 ≤ c.val := by omega
      have key : ∀ c : Fin 256, 2 ≤ c.val → IntOp.ori (IntOp.cmpi .sle (BitVec.ofNat 32 c.val) 1#32) (IntOp.cmpi .eq (BitVec.ofNat 32 c.val) 256#32) = 0#1 := by
        decide +kernel
      rw [key c h2]
      simp [Scalar.select]
    · have e1 : Ideal.cmp .oge (r : EReal) (((2 : ℝ) ^ (-126 : ℤ) : ℝ) : EReal) = 1#1 := (cmp_oge_eq_one _ _).2 hs
      have e2 : Ideal.cmp .olt (r : EReal) ⊤ = 1#1 := by simp [Ideal.cmp]
      have e3 : Ideal.log (r : EReal) = ((Real.log r : ℝ) : EReal) := if_neg (not_le.2 hr)
      have h2 : Real.log 2 ≠ 0 := (Real.log_pos (by norm_num)).ne'
      rw [e1, e2, e3, Ideal.div_coe h2, ← EReal.coe_mul]
      show Scalar.select 0#1 0 (Scalar.select (IntOp.andi 1#1 1#1) (((⌊Real.log r * (1 / Real.log 2)⌋ : ℤ) : ℝ) + ((1 : ℝ) : EReal)) 0) = _
      rw [← hn, ← EReal.coe_add]
      simp [Scalar.select, IntOp.andi]

/-- The two scales agree. -/
theorem scale_eq (a t : EReal) : wordPow (word a t) = realPow (real a t) := by
  rcases cases a t with ⟨h1, h2⟩ | ⟨z, hz, h1, h2⟩
  · rw [h1, h2, show (0 : EReal) = (((0 : ℤ) : ℝ) : EReal) by simp, realPow_int]
    refine ((wordPow_field 127).1).trans ?_
    simp [pow]
  · rw [h1, h2, realPow_int]
    refine ((wordPow_field ⟨min (z + 127).toNat 255, by omega⟩).1).trans ?_
    unfold pow
    simp only
    rw [if_neg (by omega), if_neg (show ¬ z < -126 by omega)]
    by_cases h : 127 < z
    · rw [if_pos (by omega), if_pos h]
    · rw [if_neg (by omega), if_neg h, show ((min (z + 127).toNat 255 : Nat) : ℤ) - 127 = z by omega]

/-- The two inverse scales agree. -/
theorem inverse_eq (a t : EReal) : wordPow (IntOp.subi 0#32 (word a t)) = realPow (0 - real a t) := by
  rcases cases a t with ⟨h1, h2⟩ | ⟨z, hz, h1, h2⟩
  · rw [h1, h2, show (0 : EReal) - 0 = (((0 : ℤ) : ℝ) : EReal) by simp, realPow_int]
    refine ((wordPow_field 127).2).trans ?_
    simp [pow]
  · rw [h1, h2, show (0 : EReal) - ((z : ℝ) : EReal) = (((-z : ℤ) : ℝ) : EReal) by simp, realPow_int]
    refine ((wordPow_field ⟨min (z + 127).toNat 255, by omega⟩).2).trans ?_
    unfold pow
    simp only
    by_cases h : 127 ≤ z
    · rw [if_pos (by omega), if_pos (by omega)]
    · rw [if_neg (by omega), if_neg (by omega), if_neg (by omega), if_neg (by omega),
        show ((254 - min (z + 127).toNat 255 : Nat) : ℤ) - 127 = -z by omega]

end Cert.Exponent

end
-- ==== Proof.Row.lean ====
/- What both programs compute, one row at a time, as plain mathematics over the extended reals: the greatest magnitude
   of the row, its scale and inverse scale, its codes, and one element of the product. -/
module

public import proofs.«01_k».proof.Proof.Exponent

@[expose] public section

noncomputable section

namespace Cert.Row

open Idealize.ShloMosaic Cert.Exponent

/-- The greatest magnitude of a row. -/
def top (x : Fin 4096 → EReal) : EReal :=
  (Finset.univ : Finset (Fin 4096)).fold max (Ideal.ofBits .f32 0xFF800000#32) fun k => max (x k) (-(x k))

/-- The greatest magnitude over the largest code. -/
def ratio (x : Fin 4096 → EReal) : EReal := top x * Ideal.ofBits .f32 0x3B124925#32

/-- The reference's exponent of a row. -/
def exponent (x : Fin 4096 → EReal) : EReal := real (top x) (ratio x)

/-- The scale of a row. -/
def scale (x : Fin 4096 → EReal) : EReal := realPow (exponent x)

/-- The inverse scale of a row. -/
def inverse (x : Fin 4096 → EReal) : EReal := realPow (0 - exponent x)

/-- The code of element `k` of a row: the scaled element, clipped to the largest code on both sides. -/
def code (x : Fin 4096 → EReal) (k : Fin 4096) : EReal :=
  min (Ideal.ofBits .f32 0x43E00000#32) (max (Ideal.ofBits .f32 0xC3E00000#32) (x k * inverse x))

/-- An element of the product: the row's codes against a column of weight codes, times both scales, plus the bias. -/
def out (x w : Fin 4096 → EReal) (ws b : EReal) : EReal :=
  (Ideal.ofBits .f32 0#32 + ∑ k, code x k * w k) * scale x * ws + b

end Cert.Row

end
-- ==== Proof.KernelRow.lean ====
/- The kernel's exponent, scale and inverse scale of a row of its block of x, read at an index, are the plain row's. -/
module

public import proofs.«01_k».proof.Proof.Gen.KernelIdeal.Skeleton
public import proofs.«01_k».proof.Proof.Row
public import Idealize.ShloMosaic.Lib.Pointwise.Index
public import Idealize.ShloMosaic.Lib.Pointwise.Reduce
public import Idealize.ShloMosaic.Lib.Pointwise.Contract
public import Idealize.ShloMosaic.Lib.Pipeline.Value

@[expose] public section

noncomputable section

namespace Cert.KernelRow

open Cert.KernelIdeal Cert.KernelIdeal.Gen Idealize.ShloMosaic Cert.Exponent

/-- Row `r` of a block of x. -/
def row (x : Vec Ideal S1x512x4096 .bf16) (r : Fin 512) : Fin 4096 → EReal := fun k => x (ix3 0 r k)

/-- A vector re-laid as one column, read in row `r`. -/
theorem column {α : Type} (v : S512.Idx → α) (r : Fin 512) : shapeCast S512x1 v shapeCasts_S512_S512x1 (ix2 r 0) = v (ix1 r) :=
  shapeCast_apply v _ _ _ (by rw [Shape.rowMajor_val_one, Shape.rowMajor_val_two]; simp)

/-- The block without its unit axis, as extended reals. -/
theorem pay1_at (x : Vec Ideal S1x512x4096 .bf16) (r : Fin 512) (k : Fin 4096) : k0_pay1 x (ix2 r k) = row x r k :=
  shapeCast_apply (s := S1x512x4096) (t := S512x4096) x _ _ _ (by rw [Shape.rowMajor_val_two, Shape.rowMajor_val_three]; simp)

/-- The greatest magnitudes of the block's rows, as a column. -/
def amax (x : Vec Ideal S1x512x4096 .bf16) : FVec Ideal S512x1 .f32 :=
  shapeCast S512x1 (multiReduction .maximumf [1] S512 (absf (k0_pay1 x)) 0xFF800000#32 reduces_S512x4096_S512 (.inl rfl) rfl) shapeCasts_S512_S512x1

/-- How many powers of two each row reaches, as a column. -/
def reached (t : FVec Ideal S512x1 .f32) : IVec S512x1 32 :=
  shapeCast S512x1 (multiReductionI .add [1] S512 (extui 32 (cmpf .oge (broadcastTo S512x256 t broadcasts_S512x1_S512x256)
    (bitcastToFloat .f32 (shli (iota .tc S512x256 32 [1] iota_S512x256_d1_w32) (broadcast S512x256 23#32)))) natLt_1_32)
    0#32 reduces_S512x256_S512 rfl) shapeCasts_S512_S512x1

/-- The greatest magnitude of row `r`. -/
theorem amax_at (x : Vec Ideal S1x512x4096 .bf16) (r : Fin 512) : amax x (ix2 r 0) = Row.top (row x r) := by
  unfold amax
  rw [column]
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine (multiReduction_maximumf_eq_fold _ _ _ _ _ _).trans ?_
  refine (Shape.Reduces.fold_fiber_r2_a1 reduces_S512x4096_S512 (ix1 r) _ _ _).trans ?_
  unfold Row.top
  refine Finset.fold_congr fun k _ => ?_
  show max (k0_pay1 x (ix2 r k)) (-(k0_pay1 x (ix2 r k))) = _
  rw [pay1_at]

/-- The count of row `r`. -/
theorem reached_at (t : FVec Ideal S512x1 .f32) (r : Fin 512) : reached t (ix2 r 0) = Exponent.count (t (ix2 r 0)) := by
  unfold reached
  rw [column]
  refine (multiReductionI_eq_fold .add _ _ _ rfl _).trans ?_
  refine (Shape.Reduces.fold_fiber_r2_a1 reduces_S512x256_S512 (ix1 r) IntOp.addi _ _).trans ?_
  unfold Exponent.count
  refine Finset.fold_congr fun k _ => ?_
  have e1 : broadcastTo S512x256 t broadcasts_S512x1_S512x256 (ix2 r k) = t (ix2 r 0) :=
    broadcastTo_apply (s := S512x1) (t := S512x256) t _ _ _ (fun a => by match a with | ⟨0, _⟩ => rfl | ⟨1, _⟩ => rfl)
  have e2 : iota .tc S512x256 32 [1] iota_S512x256_d1_w32 (ix2 r k) = BitVec.ofNat 32 k.val := iota_single_apply _ _ _ _ _ _
  show (Ideal.cmp .oge (broadcastTo S512x256 t broadcasts_S512x1_S512x256 (ix2 r k))
    (Ideal.ofBits .f32 (IntOp.shli .vector (iota .tc S512x256 32 [1] iota_S512x256_d1_w32 (ix2 r k)) 23#32))).setWidth 32 = _
  rw [e1, e2]

/-- The exponents as vector operations over the greatest magnitudes and the counts. -/
theorem pay2_eq (x : Vec Ideal S1x512x4096 .bf16) : k0_pay2 x =
    have c := reached (mulf (amax x) (broadcast S512x1 (FloatOps.ofBits .f32 0x3B124925#32)))
    select (cmpf .oeq (amax x) (broadcast S512x1 (FloatOps.ofBits .f32 0x00000000#32))) (broadcast S512x1 0#32)
      (select (ori (cmpi .sle c (broadcast S512x1 1#32)) (cmpi .eq c (broadcast S512x1 256#32))) (broadcast S512x1 0#32)
        (subi c (broadcast S512x1 127#32))) := rfl

/-- Those vector operations, read at an index. -/
theorem select_at (a z : FVec Ideal S512x1 .f32) (c : IVec S512x1 32) (i : S512x1.Idx) :
    select (cmpf .oeq a z) (broadcast S512x1 0#32)
      (select (ori (cmpi .sle c (broadcast S512x1 1#32)) (cmpi .eq c (broadcast S512x1 256#32))) (broadcast S512x1 0#32)
        (subi c (broadcast S512x1 127#32))) i
      = Scalar.select (Ideal.cmp .oeq (a i) (z i)) 0#32
          (Scalar.select (IntOp.ori (IntOp.cmpi .sle (c i) 1#32) (IntOp.cmpi .eq (c i) 256#32)) 0#32
            (IntOp.subi (c i) 127#32)) := rfl

/-- A product with one constant, read at an index. -/
theorem scaled_at (a : FVec Ideal S512x1 .f32) (c : Ideal .f32) (i : S512x1.Idx) :
    mulf a (broadcast S512x1 c) i = (a i * c : EReal) := rfl

/-- A constant vector, read at an index. -/
theorem constant_at {s : Shape} {α : Type} (c : α) (i : s.Idx) : broadcast s c i = c := rfl

/-- The exponent of row `r`. -/
theorem pay2_at (x : Vec Ideal S1x512x4096 .bf16) (r : Fin 512) :
    k0_pay2 x (ix2 r 0) = word (Row.top (row x r)) (Row.ratio (row x r)) := by
  rw [pay2_eq]
  refine (select_at _ _ _ _).trans ?_
  rw [reached_at, scaled_at, amax_at, constant_at, Ideal.ofBits_def, Ideal.ofBits_def, Ideal.ofBits_zero_f32]
  unfold word Row.ratio
  with_reducible rfl

/-- The scale of row `r`. -/
theorem pay3_at (x : Vec Ideal S1x512x4096 .bf16) (r : Fin 512) : k0_pay3 x (ix2 r 0) = Row.scale (row x r) := by
  have e : k0_pay3 x (ix2 r 0) = wordPow (k0_pay2 x (ix2 r 0)) := rfl
  rw [e, pay2_at, scale_eq]
  unfold Row.scale Row.exponent
  with_reducible rfl

/-- The inverse scales, as a column. -/
def inverses (e : IVec S512x1 32) : FVec Ideal S512x1 .f32 :=
  bitcastToFloat .f32 (shli (addi (minsi (broadcast S512x1 128#32) (maxsi (broadcast S512x1 4294967169#32) (subi k0_pay4 e)))
    (broadcast S512x1 127#32)) (broadcast S512x1 23#32))

/-- An inverse scale, read at an index. -/
theorem inverses_at (e : IVec S512x1 32) (i : S512x1.Idx) : inverses e i = wordPow (IntOp.subi 0#32 (e i)) := rfl

/-- The codes as vector operations over the inverse scales. -/
theorem pay5_eq (x : FVec Ideal S512x4096 .f32) (e : IVec S512x1 32) : k0_pay5 x e k0_pay4 =
    truncf .fp8e4m3 (minimumf (broadcast S512x4096 (FloatOps.ofBits .f32 0x43E00000#32))
      (maximumf (broadcast S512x4096 (FloatOps.ofBits .f32 0xC3E00000#32))
        (mulf x (broadcastTo S512x4096 (inverses e) broadcasts_S512x1_S512x4096)))) bitsLt_fp8e4m3_f32 := rfl

/-- A clipped product, read at an index. -/
theorem clip_at (lo hi : Ideal .f32) (x v : FVec Ideal S512x4096 .f32) (i : S512x4096.Idx) :
    (truncf .fp8e4m3 (minimumf (broadcast S512x4096 hi) (maximumf (broadcast S512x4096 lo) (mulf x v)))
      bitsLt_fp8e4m3_f32 : FVec Ideal S512x4096 .fp8e4m3) i = (min hi (max lo (x i * v i : EReal)) : EReal) := rfl

/-- A column spread over a block of codes. -/
theorem spread (v : FVec Ideal S512x1 .f32) (r : Fin 512) (k : Fin 4096) :
    broadcastTo S512x4096 v broadcasts_S512x1_S512x4096 (ix2 r k) = v (ix2 r 0) :=
  broadcastTo_apply (s := S512x1) (t := S512x4096) v _ _ _ (fun a => by match a with | ⟨0, _⟩ => rfl | ⟨1, _⟩ => rfl)

/-- The code of element `k` of row `r`. -/
theorem pay5_at (x : Vec Ideal S1x512x4096 .bf16) (r : Fin 512) (k : Fin 4096) :
    k0_pay5 (k0_pay1 x) (k0_pay2 x) k0_pay4 (ix2 r k) = Row.code (row x r) k := by
  rw [pay5_eq]
  refine (clip_at _ _ _ _ _).trans ?_
  rw [spread, inverses_at, pay1_at, pay2_at, inverse_eq, Ideal.ofBits_def, Ideal.ofBits_def]
  unfold Row.code Row.inverse Row.exponent
  with_reducible rfl

/-- A column spread over a block of results. -/
theorem spreadOut (v : FVec Ideal S512x1 .f32) (r : Fin 512) (n : Fin 1536) :
    broadcastTo S512x1536 v broadcasts_S512x1_S512x1536 (ix2 r n) = v (ix2 r 0) :=
  broadcastTo_apply (s := S512x1) (t := S512x1536) v _ _ _ (fun a => by match a with | ⟨0, _⟩ => rfl | ⟨1, _⟩ => rfl)

/-- A row spread over a block of results. -/
theorem spreadRow (v : FVec Ideal S1x1536 .f32) (r : Fin 512) (n : Fin 1536) :
    broadcastTo S512x1536 (shapeCast S1x1536 v shapeCasts_S1x1536_S1x1536) broadcasts_S1x1536_S512x1536 (ix2 r n) = v (ix2 0 n) := by
  rw [shapeCast_self]
  exact broadcastTo_apply (s := S1x1536) (t := S512x1536) v _ _ _ (fun a => by match a with | ⟨0, _⟩ => rfl | ⟨1, _⟩ => rfl)

/-- The product with the weights, at an index: a sum over the 4096 codes of the row. -/
theorem dot_at (q : FVec Ideal S512x4096 .fp8e4m3) (w : FVec Ideal S4096x1536 .fp8e4m3) (z : FVec Ideal S512x1536 .f32) (r : Fin 512) (n : Fin 1536) :
    matmul dot_S512x4096_S4096x1536_S512x1536_1_0_0_1_n_n none q w z (ix2 r n)
      = (z (ix2 r n) + ∑ k : Fin 4096, q (ix2 r k) * w (ix2 k n) : EReal) :=
  Ideal.matmul_apply₁_of dot_S512x4096_S4096x1536_S512x1536_1_0_0_1_n_n (a := 1) rfl (K := 4096) rfl q w z (ix2 r n)
    (fun k => ix2 r k) (fun k => ix2 k n)
    (fun k => by rw [Shape.Idx.norm_def]; funext a; match a with | ⟨0, _⟩ => rfl | ⟨1, _⟩ => rfl)
    (fun k => by rw [Shape.Idx.norm_def]; funext a; match a with | ⟨0, _⟩ => rfl | ⟨1, _⟩ => rfl)

/-- The results as vector operations. -/
theorem pay8_eq (v2 : FVec Ideal S512x4096 .f32) (e : IVec S512x1 32) (s : FVec Ideal S512x1 .f32) (z : IVec S512x1 32)
    (w : FVec Ideal S4096x1536 .fp8e4m3) (ws b : Vec Ideal S1x1536 .f32) :
    k0_pay8 v2 e s z w ws b = truncf .bf16 (shapeCast S64x8x1536 (addf (mulf (mulf
      (matmul dot_S512x4096_S4096x1536_S512x1536_1_0_0_1_n_n none (k0_pay5 v2 e z) w (constant S512x1536 .f32 0x00000000#32))
      (broadcastTo S512x1536 s broadcasts_S512x1_S512x1536))
      (broadcastTo S512x1536 (shapeCast S1x1536 ws shapeCasts_S1x1536_S1x1536) broadcasts_S1x1536_S512x1536))
      (broadcastTo S512x1536 (shapeCast S1x1536 b shapeCasts_S1x1536_S1x1536) broadcasts_S1x1536_S512x1536))
      shapeCasts_S512x1536_S64x8x1536) bitsLt_bf16_f32 := rfl

/-- Two products and a sum, read at an index. -/
theorem affine_at (p q s t : FVec Ideal S512x1536 .f32) (i : S512x1536.Idx) :
    addf (mulf (mulf p q) s) t i = (p i * q i * s i + t i : EReal) := rfl

/-- A change of format, read at an index. -/
theorem narrowed_at (v : FVec Ideal S64x8x1536 .f32) (i : S64x8x1536.Idx) :
    (truncf .bf16 v bitsLt_bf16_f32 : FVec Ideal S64x8x1536 .bf16) i = v i := rfl

/-- The zero accumulator, read at an index. -/
theorem zeros_at (i : S512x1536.Idx) : constant (F := Ideal) S512x1536 .f32 0x00000000#32 i = FloatOps.ofBits .f32 0x00000000#32 := rfl

/-- The result in row `r` (of the block's 512, in groups of eight) and column `n`. -/
theorem pay8_at (x : Vec Ideal S1x512x4096 .bf16) (w : FVec Ideal S4096x1536 .fp8e4m3) (ws b : Vec Ideal S1x1536 .f32)
    (g : Fin 64) (h : Fin 8) (n : Fin 1536) (r : Fin 512) (hr : r.val = g.val * 8 + h.val) :
    k0_pay8 (k0_pay1 x) (k0_pay2 x) (k0_pay3 x) k0_pay4 w ws b (ix3 g h n)
      = Row.out (row x r) (fun k => w (ix2 k n)) (ws (ix2 0 n)) (b (ix2 0 n)) := by
  rw [pay8_eq, narrowed_at]
  refine (shapeCast_apply (s := S512x1536) (t := S64x8x1536) _ _ (ix3 g h n) (ix2 r n)
    (by rw [Shape.rowMajor_val_two, Shape.rowMajor_val_three]; simp [hr])).trans ?_
  rw [affine_at, dot_at, spreadOut, spreadRow, spreadRow, pay3_at, zeros_at, Ideal.ofBits_def]
  simp only [pay5_at]
  unfold Row.out
  with_reducible rfl

/-- The codes with the unit axis, read at an index. -/
theorem pay6_at (x : Vec Ideal S1x512x4096 .bf16) (r : Fin 512) (k : Fin 4096) :
    k0_pay6 (k0_pay1 x) (k0_pay2 x) k0_pay4 (ix3 0 r k) = Row.code (row x r) k := by
  rw [← pay5_at]
  unfold k0_pay6
  exact shapeCast_apply (s := S512x4096) (t := S1x512x4096) _ _ (ix3 0 r k) (ix2 r k)
    (by rw [Shape.rowMajor_val_two, Shape.rowMajor_val_three]; simp)

/-- The scales laid along a row, read at an index. -/
theorem pay7_at (x : Vec Ideal S1x512x4096 .bf16) (r : Fin 512) : k0_pay7 (k0_pay3 x) (ix3 0 0 r) = Row.scale (row x r) := by
  rw [← pay3_at]
  unfold k0_pay7
  refine (shapeCast_apply (s := S1x512) (t := S1x1x512) _ _ (ix3 0 0 r) (ix2 0 r)
    (by rw [Shape.rowMajor_val_two, Shape.rowMajor_val_three]; simp)).trans ?_
  exact transpose_apply (s := S512x1) (t := S1x512) [1, 0] _ _ (ix2 0 r) (ix2 r 0)
    (fun b => by match b with | ⟨0, _⟩ => rfl | ⟨1, _⟩ => rfl)

end Cert.KernelRow

end
-- ==== Proof.KernelArrays.lean ====
/- The kernel's three arrays after its 36 grid points, as functions of the argument arrays. Point `t` works on rows
   `512 * (t % 6)` and on of matrix `t / 6`. -/
module

public import proofs.«01_k».proof.Proof.Gen.KernelIdeal.Frame
public import proofs.«01_k».proof.Proof.KernelRow
public import Idealize.ShloMosaic.Lib.Pipeline.ValueKit
public import Idealize.ShloMosaic.Lib.Claim

@[expose] public section

noncomputable section

namespace Cert.KernelArrays

open Cert.KernelIdeal Cert.KernelIdeal.Gen Idealize.ShloMosaic Idealize.ShloMosaic.TcCoe Cert.KernelRow

variable (m : (ℓ : Loc nD τ sig) → Buf (Elt Ideal) ℓ)

/-- Where each window's block sits at a point, in blocks. -/
theorem places : ∀ t : Fin cfg0.N,
    (win0_0.index t (0 : Fin 3) = t.val / 6 ∧ win0_0.index t (1 : Fin 3) = t.val % 6 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val / 6 ∧ win0_5.index t (1 : Fin 3) = t.val % 6 ∧ win0_5.index t (2 : Fin 3) = 0)
    ∧ (win0_6.index t (0 : Fin 3) = t.val / 6 ∧ win0_6.index t (1 : Fin 3) = 0 ∧ win0_6.index t (2 : Fin 3) = t.val % 6) :=
  (by decide +kernel : ∀ t : Fin grid0.N, _)

/-- The matrix of point `t`. -/
def mat (t : Fin cfg0.N) : Fin 6 := ⟨t.val / 6, by have h : t.val < 36 := t.isLt; omega⟩

/-- Row `r` of point `t`'s block, as a row of its matrix. -/
def rowOf (t : Fin cfg0.N) (r : Fin 512) : Fin 3072 := ⟨t.val % 6 * 512 + r.val, by omega⟩

/-- A load of all of a block of x. -/
theorem load0 (x : Vec Ideal S1x512x4096 .bf16) : View.ld x r0_0 = x :=
  View.ld_unit_zero (funext fun a => by match a with | ⟨0, _⟩ => rfl | ⟨1, _⟩ => rfl | ⟨2, _⟩ => rfl) _ _

/-- The block of x at a point. -/
theorem x_at (c : Dev nD) (t : Fin cfg0.N) (r : Fin 512) (k : Fin 4096) :
    iblk m c 0 t (ix3 0 r k) = m ((c : Thread nD τ).loc main_arg0) (ix3 (mat t) (rowOf t r) k) := by
  obtain ⟨⟨h0, h1, h2⟩, -⟩ := places t
  show V m c main_arg0 (((cfg0.win 0).blk t).view.emb (ix3 0 r k)) = _
  rw [V_main_arg0]
  refine congrArg _ (funext fun a => Fin.ext ?_)
  match a with
  | ⟨0, _⟩ => show win0_0.index t (0 : Fin 3) * 1 + 1 * 0 = t.val / 6; omega
  | ⟨1, _⟩ => show win0_0.index t (1 : Fin 3) * 512 + 1 * r.val = t.val % 6 * 512 + r.val; omega
  | ⟨2, _⟩ => show win0_0.index t (2 : Fin 3) * 4096 + 1 * k.val = k.val; omega

/-- The weight codes at a point. -/
theorem w_at (c : Dev nD) (t : Fin cfg0.N) (k : Fin 4096) (n : Fin 1536) :
    iblk m c 1 t (ix2 k n) = m ((c : Thread nD τ).loc main_arg1) (ix2 k n) := by
  obtain ⟨-, ⟨h0, h1⟩, -⟩ := places t
  show V m c main_arg1 (((cfg0.win 1).blk t).view.emb (ix2 k n)) = _
  rw [V_main_arg1]
  refine congrArg _ (funext fun a => Fin.ext ?_)
  match a with
  | ⟨0, _⟩ => show win0_1.index t (0 : Fin 2) * 4096 + 1 * k.val = k.val; omega
  | ⟨1, _⟩ => show win0_1.index t (1 : Fin 2) * 1536 + 1 * n.val = n.val; omega

/-- The weight scales laid as one row before the grid starts. -/
theorem entry2 (c : Dev nD) (n : Fin 1536) : V m c main_v0 (ix2 0 n) = m ((c : Thread nD τ).loc main_arg2) (ix1 n) := by
  entry_read
  exact shapeCast_apply (s := S1536) (t := S1x1536) _ _ _ _ (by rw [Shape.rowMajor_val_one, Shape.rowMajor_val_two]; simp)

/-- The bias laid as one row before the grid starts. -/
theorem entry3 (c : Dev nD) (n : Fin 1536) : V m c main_v1 (ix2 0 n) = m ((c : Thread nD τ).loc main_arg3) (ix1 n) := by
  entry_read
  exact shapeCast_apply (s := S1536) (t := S1x1536) _ _ _ _ (by rw [Shape.rowMajor_val_one, Shape.rowMajor_val_two]; simp)

/-- The weight scales at a point. -/
theorem ws_at (c : Dev nD) (t : Fin cfg0.N) (n : Fin 1536) :
    iblk m c 2 t (ix2 0 n) = m ((c : Thread nD τ).loc main_arg2) (ix1 n) := by
  obtain ⟨-, -, ⟨h0, h1⟩, -⟩ := places t
  refine Eq.trans ?_ (entry2 m c n)
  show V m c main_v0 (((cfg0.win 2).blk t).view.emb (ix2 0 n)) = _
  refine congrArg _ (funext fun a => Fin.ext ?_)
  match a with
  | ⟨0, _⟩ => show win0_2.index t (0 : Fin 2) * 1 + 1 * 0 = 0; omega
  | ⟨1, _⟩ => show win0_2.index t (1 : Fin 2) * 1536 + 1 * n.val = n.val; omega

/-- The bias at a point. -/
theorem bias_at (c : Dev nD) (t : Fin cfg0.N) (n : Fin 1536) :
    iblk m c 3 t (ix2 0 n) = m ((c : Thread nD τ).loc main_arg3) (ix1 n) := by
  obtain ⟨-, -, -, ⟨h0, h1⟩, -⟩ := places t
  refine Eq.trans ?_ (entry3 m c n)
  show V m c main_v1 (((cfg0.win 3).blk t).view.emb (ix2 0 n)) = _
  refine congrArg _ (funext fun a => Fin.ext ?_)
  match a with
  | ⟨0, _⟩ => show win0_3.index t (0 : Fin 2) * 1 + 1 * 0 = 0; omega
  | ⟨1, _⟩ => show win0_3.index t (1 : Fin 2) * 1536 + 1 * n.val = n.val; omega

/-- Row `s` of matrix `b` of x. -/
def xrow (x : Vec Ideal S6x3072x4096 .bf16) (b : Fin 6) (s : Fin 3072) : Fin 4096 → EReal := fun k => x (ix3 b s k)

/-- A row of a point's block is a row of x. -/
theorem row_at (c : Dev nD) (t : Fin cfg0.N) (r : Fin 512) :
    row (iblk m c 0 t) r = xrow (m ((c : Thread nD τ).loc main_arg0)) (mat t) (rowOf t r) :=
  funext fun k => x_at m c t r k

/-- The results, in the kernel's layout: rows in groups of eight. -/
def y (x : Vec Ideal S6x3072x4096 .bf16) (w : Vec Ideal S4096x1536 .fp8e4m3) (ws bias : Vec Ideal S1536 .f32) : Vec Ideal S2304x8x1536 .bf16 :=
  fun i => Row.out (xrow x ⟨(i 0).val / 384, by have h : (i 0).val < 2304 := (i 0).isLt; omega⟩
      ⟨(i 0).val % 384 * 8 + (i 1).val, by have h : (i 1).val < 8 := (i 1).isLt; omega⟩)
    (fun k => w (ix2 k (i 2))) (ws (ix1 (i 2))) (bias (ix1 (i 2)))

/-- The codes. -/
def codes (x : Vec Ideal S6x3072x4096 .bf16) : Vec Ideal S6x3072x4096 .fp8e4m3 := fun i => Row.code (xrow x (i 0) (i 1)) (i 2)

/-- The scales, in the kernel's layout: along a row. -/
def scales (x : Vec Ideal S6x3072x4096 .bf16) : Vec Ideal S6x1x3072 .f32 := fun i => Row.scale (xrow x (i 0) (i 2))

/-- The result array after the run. -/
theorem y_final (c : Dev nD) : (dats m 0 c).arrAt 4 cfg0.N
    = y (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf j => ?_
  blk_simp
  rw [after0_4]
  frame_out
  obtain ⟨g, h, n, rfl⟩ : ∃ (g : Fin 64) (h : Fin 8) (n : Fin 1536), j = ix3 g h n := ⟨j 0, j 1, j 2, (eq_ix3 (n0 := 64) (n1 := 8) (n2 := 1536) j)⟩
  obtain ⟨-, -, -, -, ⟨h0, h1, h2⟩, -⟩ := places t
  have ht : t.val < 36 := t.isLt
  have e : ((View.whole main_v2_0).slice (win0_4.rect t)).emb (ix3 g h n) = ix3 (⟨t.val * 64 + g.val, by omega⟩ : Fin 2304) h n := by
    refine funext fun a => Fin.ext ?_
    match a with
    | ⟨0, _⟩ => show win0_4.index t (0 : Fin 3) * 64 + 1 * g.val = t.val * 64 + g.val; omega
    | ⟨1, _⟩ => show win0_4.index t (1 : Fin 3) * 8 + 1 * h.val = h.val; omega
    | ⟨2, _⟩ => show win0_4.index t (2 : Fin 3) * 1536 + 1 * n.val = n.val; omega
  rw [e]
  unfold k0_pay9 k0_pay10 k0_pay11 k0_pay12
  rw [load0]
  refine (pay8_at _ _ _ _ g h n ⟨g.val * 8 + h.val, by omega⟩ rfl).trans ?_
  rw [row_at, ws_at, bias_at]
  simp only [w_at]
  have e1 : mat t = ⟨(t.val * 64 + g.val) / 384, by omega⟩ := Fin.ext (by show t.val / 6 = _; simp only; omega)
  have e2 : rowOf t ⟨g.val * 8 + h.val, by omega⟩ = ⟨(t.val * 64 + g.val) % 384 * 8 + h.val, by omega⟩ :=
    Fin.ext (by show t.val % 6 * 512 + (g.val * 8 + h.val) = _; simp only; omega)
  rw [e1, e2]
  rfl

/-- The array of codes after the run. -/
theorem codes_final (c : Dev nD) : (dats m 0 c).arrAt 5 cfg0.N = codes (m ((c : Thread nD τ).loc main_arg0)) := by
  refine (dats m 0 c).arrAt_eq_of_covers 5 _ (by decide +kernel) fun t hf j => ?_
  blk_simp
  rw [after0_5]
  frame_out
  obtain ⟨z, r, k, rfl⟩ : ∃ (z : Fin 1) (r : Fin 512) (k : Fin 4096), j = ix3 z r k := ⟨j 0, j 1, j 2, (eq_ix3 (n0 := 1) (n1 := 512) (n2 := 4096) j)⟩
  obtain rfl : z = 0 := Subsingleton.elim _ _
  obtain ⟨-, -, -, -, -, ⟨h0, h1, h2⟩, -⟩ := places t
  have e : ((View.whole main_v2_1).slice (win0_5.rect t)).emb (ix3 0 r k) = ix3 (mat t) (rowOf t r) k := by
    refine funext fun a => Fin.ext ?_
    match a with
    | ⟨0, _⟩ => show win0_5.index t (0 : Fin 3) * 1 + 1 * 0 = t.val / 6; omega
    | ⟨1, _⟩ => show win0_5.index t (1 : Fin 3) * 512 + 1 * r.val = t.val % 6 * 512 + r.val; omega
    | ⟨2, _⟩ => show win0_5.index t (2 : Fin 3) * 4096 + 1 * k.val = k.val; omega
  rw [e]
  unfold k0_pay9 k0_pay10 k0_pay12
  rw [load0]
  refine (pay6_at _ r k).trans ?_
  rw [row_at]
  rfl

/-- The array of scales after the run. -/
theorem scales_final (c : Dev nD) : (dats m 0 c).arrAt 6 cfg0.N = scales (m ((c : Thread nD τ).loc main_arg0)) := by
  refine (dats m 0 c).arrAt_eq_of_covers 6 _ (by decide +kernel) fun t hf j => ?_
  blk_simp
  rw [after0_6]
  frame_out
  obtain ⟨z, z', r, rfl⟩ : ∃ (z : Fin 1) (z' : Fin 1) (r : Fin 512), j = ix3 z z' r := ⟨j 0, j 1, j 2, (eq_ix3 (n0 := 1) (n1 := 1) (n2 := 512) j)⟩
  obtain rfl : z = 0 := Subsingleton.elim _ _
  obtain rfl : z' = 0 := Subsingleton.elim _ _
  obtain ⟨-, -, -, -, -, -, ⟨h0, h1, h2⟩⟩ := places t
  have e : ((View.whole main_v2_2).slice (win0_6.rect t)).emb (ix3 0 0 r) = ix3 (mat t) 0 (rowOf t r) := by
    refine funext fun a => Fin.ext ?_
    match a with
    | ⟨0, _⟩ => show win0_6.index t (0 : Fin 3) * 1 + 1 * 0 = t.val / 6; omega
    | ⟨1, _⟩ => show win0_6.index t (1 : Fin 3) * 1 + 1 * 0 = 0; omega
    | ⟨2, _⟩ => show win0_6.index t (2 : Fin 3) * 512 + 1 * r.val = t.val % 6 * 512 + r.val; omega
  rw [e]
  unfold k0_pay11
  rw [load0]
  refine (pay7_at _ r).trans ?_
  rw [row_at]
  rfl

end Cert.KernelArrays

end
-- ==== Proof.KernelRun.lean ====
/- A run of the kernel's program: its three results as functions of the argument arrays. After the grid the host
   reshapes the outputs and the scales. -/
module

public import proofs.«01_k».proof.Proof.KernelArrays
public import Idealize.ShloMosaic.Lib.Pipeline.FrameSuffix

@[expose] public section

noncomputable section

namespace Cert.KernelRun

open Cert.KernelIdeal Cert.KernelIdeal.Gen Idealize.ShloMosaic Idealize.ShloMosaic.TcCoe Idealize.SL.Sem Cert.KernelArrays

variable (m : (ℓ : Loc nD τ sig) → Buf (Elt Ideal) ℓ) (ρ : Dev nD → PrngReg)

/-- The outputs, reshaped to 6 matrices of 3072 rows. -/
def yOut (x : Vec Ideal S6x3072x4096 .bf16) (w : Vec Ideal S4096x1536 .fp8e4m3) (ws bias : Vec Ideal S1536 .f32) :
    Vec Ideal S6x3072x1536 .bf16 :=
  shapeCast S6x3072x1536 (y x w ws bias) shapeCasts_S2304x8x1536_S6x3072x1536

/-- The scales, reshaped to one column a matrix. -/
def scalesOut (x : Vec Ideal S6x3072x4096 .bf16) : Vec Ideal S6x3072x1 .f32 :=
  shapeCast S6x3072x1 (scales x) shapeCasts_S6x1x3072_S6x3072x1

/-- The outputs' buffer after the host's reshapes. -/
theorem y_after (c : Dev nD) : Pipeline.afterTail₀ cfgs (dats m) 0 (V0 m) [hostOps1] c main_v3
    = yOut (m ((c : Thread nD τ).loc main_arg0)) (m ((c : Thread nD τ).loc main_arg1)) (m ((c : Thread nD τ).loc main_arg2)) (m ((c : Thread nD τ).loc main_arg3)) := by
  unfold Pipeline.afterTail₀
  rw [show ([hostOps1].flatten : List (HloOp τ sig (Elt Ideal))) = hostOps1 from rfl]
  after_results
  have h := (Pipeline.withArrays_arr spec0 launch0.win.arr_inj c (V0 m c) (fun w => (dats m 0 c).arrAt w cfg0.N) 4).trans (y_final m c)
  exact congrArg (fun v => shapeCast S6x3072x1536 v shapeCasts_S2304x8x1536_S6x3072x1536) h

/-- The scales' buffer after the host's reshapes. -/
theorem scales_after (c : Dev nD) : Pipeline.afterTail₀ cfgs (dats m) 0 (V0 m) [hostOps1] c main_v4
    = scalesOut (m ((c : Thread nD τ).loc main_arg0)) := by
  unfold Pipeline.afterTail₀
  rw [show ([hostOps1].flatten : List (HloOp τ sig (Elt Ideal))) = hostOps1 from rfl]
  after_results
  have h := (Pipeline.withArrays_arr spec0 launch0.win.arr_inj c (V0 m c) (fun w => (dats m 0 c).arrAt w cfg0.N) 6).trans (scales_final m c)
  exact congrArg (fun v => shapeCast S6x3072x1 v shapeCasts_S6x1x3072_S6x3072x1) h

/-- Every run of the program ends with these results and with its arguments as they were. -/
theorem run : θ_run defs (onTc (τ := τ) (main (F := Ideal))) ⟨m, fun _ => 0, ρ⟩ fun r => ∀ c : Dev nD,
      r.2.mem ((c : Thread nD τ).loc main_v3) = yOut (m ((c : Thread nD τ).loc main_arg0)) (m ((c : Thread nD τ).loc main_arg1)) (m ((c : Thread nD τ).loc main_arg2)) (m ((c : Thread nD τ).loc main_arg3))
      ∧ r.2.mem ((c : Thread nD τ).loc main_v2_1) = codes (m ((c : Thread nD τ).loc main_arg0))
      ∧ r.2.mem ((c : Thread nD τ).loc main_v4) = scalesOut (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨
      ((h c).2 main_v3 (Pipeline.mem_restRefs_of main_v3 (by decide) (by decide))).trans (y_after m c),
      ((h c).1 5).trans (codes_final m c),
      ((h c).2 main_v4 (Pipeline.mem_restRefs_of main_v4 (by decide) (by decide))).trans (scales_after m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.KernelRun

end
-- ==== Proof.ReferenceRow.lean ====
/- The reference's exponent, scale, codes and results, read at an index, are the plain row's. -/
module

public import proofs.«01_k».proof.Proof.Gen.ReferenceIdeal.Skeleton
public import proofs.«01_k».proof.Proof.Row
public import Idealize.ShloMosaic.PureOps.IdealRules
public import Idealize.ShloMosaic.Lib.Pointwise.Index
public import Idealize.ShloMosaic.Lib.Pointwise.Reduce
public import Idealize.ShloMosaic.Lib.Pointwise.Contract
public import Idealize.ShloMosaic.Lib.Pipeline.Value

@[expose] public section

noncomputable section

namespace Cert.ReferenceRow

open Cert.ReferenceIdeal Cert.ReferenceIdeal.Gen Idealize.ShloMosaic Cert.Exponent

/-- Row `s` of matrix `b` of x. -/
def row (x : Vec Ideal S6x3072x4096 .bf16) (b : Fin 6) (s : Fin 3072) : Fin 4096 → EReal := fun k => x (ix3 b s k)

/-- The named constant denotes the natural logarithm of two. -/
theorem ln2 : Named.named (F := Ideal) Cert.ReferenceIdeal.κ "ln2" (φ := .f32) 0x3F317218#32 = ((Real.log 2 : ℝ) : EReal) :=
  IdealRules.named_const.ideal_named_scalar _ _ _ _ rfl

/-- A constant vector, read at an index. -/
theorem constant_at {s : Shape} {α : Type} (c : α) (i : s.Idx) : broadcast s c i = c := rfl

/-- x in the wider format, as extended reals. -/
theorem pay3_at (x : Vec Ideal S6x3072x4096 .bf16) (i : S6x3072x4096.Idx) : k0_pay3 x i = x i := rfl

/-- The greatest magnitudes of the rows. -/
def amax (x : Vec Ideal S6x3072x4096 .bf16) : FVec Ideal S6x3072x1 .f32 :=
  shapeCast S6x3072x1 (multiReduction .maximumf [2] S6x3072 (absf (k0_pay3 x)) 0xFF800000#32 reduces_S6x3072x4096_S6x3072 (.inl rfl) rfl) shapeCasts_S6x3072_S6x3072x1

/-- The greatest magnitude of a row. -/
theorem amax_at (x : Vec Ideal S6x3072x4096 .bf16) (b : Fin 6) (s : Fin 3072) : amax x (ix3 b s 0) = Row.top (row x b s) := by
  unfold amax
  refine (shapeCast_apply (s := S6x3072) (t := S6x3072x1) _ _ (ix3 b s 0) (ix2 b s)
    (by rw [Shape.rowMajor_val_two, Shape.rowMajor_val_three]; simp)).trans ?_
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine (multiReduction_maximumf_eq_fold _ _ _ _ _ _).trans ?_
  refine (Shape.Reduces.fold_fiber_r3_a2 reduces_S6x3072x4096_S6x3072 (ix2 b s) _ _ _).trans ?_
  unfold Row.top
  refine Finset.fold_congr fun k _ => ?_
  show max (k0_pay3 x (ix3 b s k)) (-(k0_pay3 x (ix3 b s k))) = _
  rw [pay3_at]
  rfl

/-- The exponents as vector operations over the greatest magnitudes. -/
theorem pay4_eq (x : Vec Ideal S6x3072x4096 .bf16) : k0_pay4 x =
    have t := mulf (amax x) (broadcast S6x3072x1 (FloatOps.ofBits .f32 0x3B124925#32))
    select (cmpf .oeq (amax x) (broadcast S6x3072x1 (FloatOps.ofBits .f32 0x00000000#32))) (broadcast S6x3072x1 (FloatOps.ofBits .f32 0x00000000#32))
      (select (andi (cmpf .oge t (broadcast S6x3072x1 (FloatOps.ofBits .f32 0x00800000#32))) (cmpf .olt t (broadcast S6x3072x1 (FloatOps.ofBits .f32 0x7F800000#32))))
        (addf (floor (divf (log t) (broadcast S6x3072x1 (Named.named κ "ln2" 0x3F317218#32)))) (broadcast S6x3072x1 (FloatOps.ofBits .f32 0x3F800000#32)))
        (broadcast S6x3072x1 (FloatOps.ofBits .f32 0x00000000#32))) := rfl

/-- Those vector operations, read at an index. -/
theorem exponent_at (a : FVec Ideal S6x3072x1 .f32) (z c least inf ln one : Ideal .f32) (i : S6x3072x1.Idx) :
    (have t := mulf a (broadcast S6x3072x1 c)
    select (cmpf .oeq a (broadcast S6x3072x1 z)) (broadcast S6x3072x1 z)
      (select (andi (cmpf .oge t (broadcast S6x3072x1 least)) (cmpf .olt t (broadcast S6x3072x1 inf)))
        (addf (floor (divf (log t) (broadcast S6x3072x1 ln))) (broadcast S6x3072x1 one))
        (broadcast S6x3072x1 z))) i
      = (Scalar.select (Ideal.cmp .oeq (a i) z) z
          (Scalar.select (IntOp.andi (Ideal.cmp .oge (a i * c : EReal) least) (Ideal.cmp .olt (a i * c : EReal) inf))
            (Ideal.liftRound Int.floor (Ideal.div (Ideal.log (a i * c : EReal)) ln) + one : EReal) z) : EReal) := rfl

/-- The exponent of a row. -/
theorem pay4_at (x : Vec Ideal S6x3072x4096 .bf16) (b : Fin 6) (s : Fin 3072) : k0_pay4 x (ix3 b s 0) = Row.exponent (row x b s) := by
  rw [pay4_eq]
  refine (exponent_at _ _ _ _ _ _ _ _).trans ?_
  rw [amax_at, ln2]
  simp only [Ideal.ofBits_def, Ideal.ofBits_zero_f32]
  unfold Row.exponent real Row.ratio
  with_reducible rfl

/-- The power of two of an exponent, as vector operations. -/
def power (e : FVec Ideal S6x3072x1 .f32) : FVec Ideal S6x3072x1 .f32 :=
  select (cmpf .olt e (broadcast S6x3072x1 (FloatOps.ofBits .f32 0xC2FC0000#32))) (broadcast S6x3072x1 (FloatOps.ofBits .f32 0x00000000#32))
    (select (cmpf .ogt e (broadcast S6x3072x1 (FloatOps.ofBits .f32 0x42FE0000#32))) (broadcast S6x3072x1 (FloatOps.ofBits .f32 0x7F800000#32)) (exp2 e))

/-- Two comparisons and a power of two, read at an index. -/
theorem choose_at (e : FVec Ideal S6x3072x1 .f32) (lo z hi inf : Ideal .f32) (i : S6x3072x1.Idx) :
    select (cmpf .olt e (broadcast S6x3072x1 lo)) (broadcast S6x3072x1 z)
      (select (cmpf .ogt e (broadcast S6x3072x1 hi)) (broadcast S6x3072x1 inf) (exp2 e)) i
      = (Scalar.select (Ideal.cmp .olt (e i) lo) z (Scalar.select (Ideal.cmp .ogt (e i) hi) inf (Ideal.exp2 (e i))) : EReal) := rfl

/-- The power of two, read at an index. -/
theorem power_at (e : FVec Ideal S6x3072x1 .f32) (i : S6x3072x1.Idx) : power e i = realPow (e i) := by
  unfold power
  refine (choose_at _ _ _ _ _ _).trans ?_
  simp only [Ideal.ofBits_def, Ideal.ofBits_zero_f32]
  unfold realPow
  with_reducible rfl

/-- The scales are the powers of two of the exponents. -/
theorem pay5_eq (x : Vec Ideal S6x3072x4096 .bf16) : k0_pay5 x = power (k0_pay4 x) := rfl

/-- The scale of a row. -/
theorem pay5_at (x : Vec Ideal S6x3072x4096 .bf16) (b : Fin 6) (s : Fin 3072) : k0_pay5 x (ix3 b s 0) = Row.scale (row x b s) := by
  rw [pay5_eq, power_at, pay4_at]
  unfold Row.scale
  with_reducible rfl

/-- Zero less a vector, read at an index. -/
theorem less_at (z : Ideal .f32) (e : FVec Ideal S6x3072x1 .f32) (i : S6x3072x1.Idx) : subf (broadcast S6x3072x1 z) e i = (z - e i : EReal) := rfl

/-- The exponent of a row's inverse scale. -/
theorem pay6_at (x : Vec Ideal S6x3072x4096 .bf16) (b : Fin 6) (s : Fin 3072) : k0_pay6 x (ix3 b s 0) = 0 - Row.exponent (row x b s) := by
  have e : k0_pay6 x = subf (broadcast S6x3072x1 (FloatOps.ofBits .f32 0x00000000#32)) (k0_pay4 x) := rfl
  rw [e, less_at, pay4_at, Ideal.ofBits_def, Ideal.ofBits_zero_f32]

/-- The codes as vector operations over the inverse scales. -/
theorem pay1_eq (x : Vec Ideal S6x3072x4096 .bf16) : k0_pay1 (k0_pay3 x) (k0_pay7 x) (k0_pay8 x) (k0_pay9 x) (FloatOps.ofBits .f32 0x7F800000#32) =
    truncf .fp8e4m3 (minimumf (broadcast S6x3072x4096 (FloatOps.ofBits .f32 0x43E00000#32))
      (maximumf (broadcast S6x3072x4096 (FloatOps.ofBits .f32 0xC3E00000#32))
        (mulf (k0_pay3 x) (broadcastTo S6x3072x4096 (power (k0_pay6 x)) broadcasts_S6x3072x1_S6x3072x4096)))) bitsLt_fp8e4m3_f32 := rfl

/-- A clipped product, read at an index. -/
theorem clip_at (lo hi : Ideal .f32) (x v : FVec Ideal S6x3072x4096 .f32) (i : S6x3072x4096.Idx) :
    (truncf .fp8e4m3 (minimumf (broadcast S6x3072x4096 hi) (maximumf (broadcast S6x3072x4096 lo) (mulf x v)))
      bitsLt_fp8e4m3_f32 : FVec Ideal S6x3072x4096 .fp8e4m3) i = (min hi (max lo (x i * v i : EReal)) : EReal) := rfl

/-- One value per row spread over the codes. -/
theorem spread (v : FVec Ideal S6x3072x1 .f32) (b : Fin 6) (s : Fin 3072) (k : Fin 4096) :
    broadcastTo S6x3072x4096 v broadcasts_S6x3072x1_S6x3072x4096 (ix3 b s k) = v (ix3 b s 0) :=
  broadcastTo_apply (s := S6x3072x1) (t := S6x3072x4096) v _ _ _ (fun a => by match a with | ⟨0, _⟩ => rfl | ⟨1, _⟩ => rfl | ⟨2, _⟩ => rfl)

/-- The code of element `k` of a row. -/
theorem pay1_at (x : Vec Ideal S6x3072x4096 .bf16) (b : Fin 6) (s : Fin 3072) (k : Fin 4096) :
    k0_pay1 (k0_pay3 x) (k0_pay7 x) (k0_pay8 x) (k0_pay9 x) (FloatOps.ofBits .f32 0x7F800000#32) (ix3 b s k) = Row.code (row x b s) k := by
  rw [pay1_eq]
  refine (clip_at _ _ _ _ _).trans ?_
  rw [spread, power_at, pay6_at, pay3_at, Ideal.ofBits_def, Ideal.ofBits_def]
  unfold Row.code Row.inverse row
  with_reducible rfl

/-- One value per row spread over the results. -/
theorem spreadOut (v : FVec Ideal S6x3072x1 .f32) (b : Fin 6) (s : Fin 3072) (n : Fin 1536) :
    broadcastTo S6x3072x1536 v broadcasts_S6x3072x1_S6x3072x1536 (ix3 b s n) = v (ix3 b s 0) :=
  broadcastTo_apply (s := S6x3072x1) (t := S6x3072x1536) v _ _ _ (fun a => by match a with | ⟨0, _⟩ => rfl | ⟨1, _⟩ => rfl | ⟨2, _⟩ => rfl)

/-- One value per column spread over the results. -/
theorem spreadRow (v : FVec Ideal S1536 .f32) (b : Fin 6) (s : Fin 3072) (n : Fin 1536) :
    broadcastTo S6x3072x1536 (shapeCast S1x1x1536 v shapeCasts_S1536_S1x1x1536) broadcasts_S1x1x1536_S6x3072x1536 (ix3 b s n) = v (ix1 n) := by
  refine (broadcastTo_apply (s := S1x1x1536) (t := S6x3072x1536) _ _ _ (ix3 0 0 n)
    (fun a => by match a with | ⟨0, _⟩ => rfl | ⟨1, _⟩ => rfl | ⟨2, _⟩ => rfl)).trans ?_
  exact shapeCast_apply (s := S1536) (t := S1x1x1536) v _ (ix3 0 0 n) (ix1 n)
    (by rw [Shape.rowMajor_val_one, Shape.rowMajor_val_three]; simp)

/-- The product with the weights, at an index: a sum over the 4096 codes of the row. -/
theorem dot_at (q : FVec Ideal S6x3072x4096 .fp8e4m3) (w : FVec Ideal S4096x1536 .fp8e4m3) (z : FVec Ideal S6x3072x1536 .f32)
    (b : Fin 6) (s : Fin 3072) (n : Fin 1536) :
    matmul dot_S6x3072x4096_S4096x1536_S6x3072x1536_2_0_01_1_n_n none q w z (ix3 b s n)
      = (z (ix3 b s n) + ∑ k : Fin 4096, q (ix3 b s k) * w (ix2 k n) : EReal) :=
  Ideal.matmul_apply₁_of dot_S6x3072x4096_S4096x1536_S6x3072x1536_2_0_01_1_n_n (a := 2) rfl (K := 4096) rfl q w z (ix3 b s n)
    (fun k => ix3 b s k) (fun k => ix2 k n)
    (fun k => by rw [Shape.Idx.norm_def]; funext a; match a with | ⟨0, _⟩ => rfl | ⟨1, _⟩ => rfl | ⟨2, _⟩ => rfl)
    (fun k => by rw [Shape.Idx.norm_def]; funext a; match a with | ⟨0, _⟩ => rfl | ⟨1, _⟩ => rfl)

/-- The results as vector operations. -/
theorem pay2_eq (v1 : FVec Ideal S6x3072x4096 .f32) (v32 : FVec Ideal S6x3072x1 .f32) (v36 v38 : IVec S6x3072x1 1) (v39 : FVec Ideal S6x3072x1 .f32)
    (c : Ideal .f32) (w : FVec Ideal S4096x1536 .fp8e4m3) (ws b : Vec Ideal S1536 .f32) :
    k0_pay2 v1 v32 v36 v38 v39 c w ws b = truncf .bf16 (addf (mulf (mulf
      (matmul dot_S6x3072x4096_S4096x1536_S6x3072x1536_2_0_01_1_n_n none (k0_pay1 v1 v36 v38 v39 c) w (constant S6x3072x1536 .f32 0x00000000#32))
      (broadcastTo S6x3072x1536 v32 broadcasts_S6x3072x1_S6x3072x1536))
      (broadcastTo S6x3072x1536 (shapeCast S1x1x1536 ws shapeCasts_S1536_S1x1x1536) broadcasts_S1x1x1536_S6x3072x1536))
      (broadcastTo S6x3072x1536 (shapeCast S1x1x1536 b shapeCasts_S1536_S1x1x1536) broadcasts_S1x1x1536_S6x3072x1536))
      bitsLt_bf16_f32 := rfl

/-- Two products and a sum, then a change of format, read at an index. -/
theorem affine_at (p q s t : FVec Ideal S6x3072x1536 .f32) (i : S6x3072x1536.Idx) :
    (truncf .bf16 (addf (mulf (mulf p q) s) t) bitsLt_bf16_f32 : FVec Ideal S6x3072x1536 .bf16) i = (p i * q i * s i + t i : EReal) := rfl

/-- The zero accumulator, read at an index. -/
theorem zeros_at (i : S6x3072x1536.Idx) : constant (F := Ideal) S6x3072x1536 .f32 0x00000000#32 i = FloatOps.ofBits .f32 0x00000000#32 := rfl

/-- The result in a row and column. -/
theorem pay2_at (x : Vec Ideal S6x3072x4096 .bf16) (w : FVec Ideal S4096x1536 .fp8e4m3) (ws bias : Vec Ideal S1536 .f32)
    (b : Fin 6) (s : Fin 3072) (n : Fin 1536) :
    k0_pay2 (k0_pay3 x) (k0_pay5 x) (k0_pay7 x) (k0_pay8 x) (k0_pay9 x) (FloatOps.ofBits .f32 0x7F800000#32) w ws bias (ix3 b s n)
      = Row.out (row x b s) (fun k => w (ix2 k n)) (ws (ix1 n)) (bias (ix1 n)) := by
  rw [pay2_eq]
  refine (affine_at _ _ _ _ _).trans ?_
  rw [dot_at, spreadOut, spreadRow, spreadRow, pay5_at, zeros_at, Ideal.ofBits_def]
  simp only [pay1_at]
  unfold Row.out
  with_reducible rfl

end Cert.ReferenceRow

end
-- ==== Proof.ReferenceArrays.lean ====
/- The reference's three arrays after its run, read at an index. -/
module

public import proofs.«01_k».proof.Proof.Gen.ReferenceIdeal.Value
public import proofs.«01_k».proof.Proof.ReferenceRow

@[expose] public section

noncomputable section

namespace Cert.ReferenceArrays

open Cert.ReferenceIdeal Cert.ReferenceIdeal.Gen Idealize.ShloMosaic Cert.ReferenceRow

/-- Three zero offsets. -/
theorem off3 : (![0, 0, 0] : Fin 3 → Nat) = fun _ => 0 := by
  funext a; match a with | ⟨0, _⟩ => rfl | ⟨1, _⟩ => rfl | ⟨2, _⟩ => rfl

/-- A load of all of x. -/
theorem load0 (x : Vec Ideal S6x3072x4096 .bf16) : View.ld x r0_0 = x := View.ld_unit_zero off3 _ _

/-- The results. -/
theorem y_at (x : Vec Ideal S6x3072x4096 .bf16) (w : Vec Ideal S4096x1536 .fp8e4m3) (ws bias : Vec Ideal S1536 .f32)
    (b : Fin 6) (s : Fin 3072) (n : Fin 1536) :
    Value.G4 x w ws bias (ix3 b s n) = Row.out (row x b s) (fun k => w (ix2 k n)) (ws (ix1 n)) (bias (ix1 n)) := by
  unfold Value.G4
  unfold k0_pay10 k0_pay11 k0_pay12 k0_pay13 k0_pay14
  rw [load0]
  exact pay2_at x w ws bias b s n

/-- The codes. -/
theorem codes_at (x : Vec Ideal S6x3072x4096 .bf16) (w : Vec Ideal S4096x1536 .fp8e4m3) (ws bias : Vec Ideal S1536 .f32)
    (b : Fin 6) (s : Fin 3072) (k : Fin 4096) :
    Value.G5 x w ws bias (ix3 b s k) = Row.code (row x b s) k := by
  unfold Value.G5
  unfold k0_pay10 k0_pay12 k0_pay13 k0_pay14
  rw [load0]
  exact pay1_at x b s k

/-- The scales. -/
theorem scales_at (x : Vec Ideal S6x3072x4096 .bf16) (w : Vec Ideal S4096x1536 .fp8e4m3) (ws bias : Vec Ideal S1536 .f32)
    (b : Fin 6) (s : Fin 3072) :
    Value.G6 x w ws bias (ix3 b s 0) = Row.scale (row x b s) := by
  unfold Value.G6
  unfold k0_pay11
  rw [load0]
  exact pay5_at x b s

end Cert.ReferenceArrays

end
-- ==== Proof.Algebraic.lean ====
/- The kernel's and the reference's programs leave the same three results in arrays of extended reals. -/
module

public import proofs.«01_k».proof.Defs
public import proofs.«01_k».proof.Proof.KernelRun
public import proofs.«01_k».proof.Proof.ReferenceArrays

@[expose] public section

noncomputable section

namespace Cert.Algebraic

open Idealize.ShloMosaic Idealize.ShloMosaic.TcCoe Idealize.SL.Sem Cert.KernelIdeal

/-- The outputs agree. Row `s` of matrix `b` lies at row `s % 8` of group `b * 384 + s / 8`. -/
theorem y_eq (x : Vec Ideal S6x3072x4096 .bf16) (w : Vec Ideal S4096x1536 .fp8e4m3) (ws bias : Vec Ideal S1536 .f32) :
    Cert.ReferenceIdeal.Value.G4 x w ws bias = KernelRun.yOut x w ws bias := by
  funext i
  obtain ⟨b, s, n, rfl⟩ : ∃ (b : Fin 6) (s : Fin 3072) (n : Fin 1536), i = ix3 b s n := ⟨i 0, i 1, i 2, eq_ix3 (n0 := 6) (n1 := 3072) (n2 := 1536) i⟩
  refine (ReferenceArrays.y_at x w ws bias b s n).trans ?_
  unfold KernelRun.yOut
  rw [shapeCast_apply _ _ (ix3 b s n) (ix3 (⟨b.val * 384 + s.val / 8, by omega⟩ : Fin 2304) (⟨s.val % 8, by omega⟩ : Fin 8) n)
    (by
      rw [Shape.rowMajor_val_three, Shape.rowMajor_val_three]
      show ((b.val * 384 + s.val / 8) * 8 + s.val % 8) * 1536 + n.val = (b.val * 3072 + s.val) * 1536 + n.val
      omega)]
  have e : ∀ (b' : Fin 6) (s' : Fin 3072), b' = b → s' = s →
      Row.out (ReferenceRow.row x b s) (fun k => w (ix2 k n)) (ws (ix1 n)) (bias (ix1 n))
        = Row.out (KernelArrays.xrow x b' s') (fun k => w (ix2 k n)) (ws (ix1 n)) (bias (ix1 n)) := by
    rintro b' s' rfl rfl; rfl
  refine e _ _ (Fin.ext ?_) (Fin.ext ?_)
  · show (b.val * 384 + s.val / 8) / 384 = b.val
    omega
  · show (b.val * 384 + s.val / 8) % 384 * 8 + s.val % 8 = s.val
    omega

/-- The codes agree. -/
theorem codes_eq (x : Vec Ideal S6x3072x4096 .bf16) (w : Vec Ideal S4096x1536 .fp8e4m3) (ws bias : Vec Ideal S1536 .f32) :
    Cert.ReferenceIdeal.Value.G5 x w ws bias = KernelArrays.codes x := by
  funext i
  obtain ⟨b, s, k, rfl⟩ : ∃ (b : Fin 6) (s : Fin 3072) (k : Fin 4096), i = ix3 b s k := ⟨i 0, i 1, i 2, eq_ix3 (n0 := 6) (n1 := 3072) (n2 := 4096) i⟩
  exact ReferenceArrays.codes_at x w ws bias b s k

/-- The scales agree. -/
theorem scales_eq (x : Vec Ideal S6x3072x4096 .bf16) (w : Vec Ideal S4096x1536 .fp8e4m3) (ws bias : Vec Ideal S1536 .f32) :
    Cert.ReferenceIdeal.Value.G6 x w ws bias = KernelRun.scalesOut x := by
  funext i
  obtain ⟨b, s, z, rfl⟩ : ∃ (b : Fin 6) (s : Fin 3072) (z : Fin 1), i = ix3 b s z := ⟨i 0, i 1, i 2, eq_ix3 (n0 := 6) (n1 := 3072) (n2 := 1) i⟩
  obtain rfl : z = 0 := Subsingleton.elim _ _
  refine (ReferenceArrays.scales_at x w ws bias b s).trans ?_
  unfold KernelRun.scalesOut
  rw [shapeCast_apply _ _ (ix3 b s (0 : Fin 1)) (ix3 b (0 : Fin 1) s)
    (by
      rw [Shape.rowMajor_val_three, Shape.rowMajor_val_three]
      show (b.val * 1 + 0) * 3072 + s.val = (b.val * 3072 + s.val) * 1 + 0
      omega)]
  rfl

/-- From equal arguments the two programs end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, KernelRun.run m g, ?_⟩
  refine (θ_run _ _ _).mono (fun r h c => ?_) (Cert.ReferenceIdeal.Value.run m' g')
  obtain ⟨a0, a1, a2, a3⟩ := hagree c
  obtain ⟨h0, h1, h2, hargs⟩ := h c
  rw [a0, a1, a2, a3] at h0 h1 h2
  exact ⟨h0.trans (y_eq _ _ _ _), h1.trans (codes_eq _ _ _ _), h2.trans (scales_eq _ _ _ _), hargs⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    Cert.Algebraic.algebraic⟩

end Cert.Proof

end
